-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x8192x1024 : Shape := ⟨3, ![4, 8192, 1024]⟩
abbrev S8192x1024 : Shape := ⟨2, ![8192, 1024]⟩
abbrev S1x512x1024 : Shape := ⟨3, ![1, 512, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4x8192x1024, .f32⟩
  | .hbm, ⟨1, _⟩ => ⟨S8192x1024, .f32⟩
  | .hbm, ⟨2, _⟩ => ⟨S4x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S512x1024, .f32⟩
  | .local _ .vmem, ⟨3, _⟩ => ⟨S512x1024, .f32⟩
  | .local _ .vmem, ⟨4, _⟩ => ⟨S1x512x1024, .f32⟩
  | .local _ .vmem, ⟨5, _⟩ => ⟨S1x512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceIdeal.lean ====
abbrev S4x8192x1024 : Shape := ⟨3, ![4, 8192, 1024]⟩
abbrev S8192x1024 : Shape := ⟨2, ![8192, 1024]⟩
abbrev S8192 : Shape := ⟨1, ![8192]⟩
abbrev S1x8192 : Shape := ⟨2, ![1, 8192]⟩
abbrev S4x8192 : Shape := ⟨2, ![4, 8192]⟩
abbrev S_ : Shape := ⟨0, ![]⟩
abbrev S4x8192x1 : Shape := ⟨3, ![4, 8192, 1]⟩
abbrev S1 : Shape := ⟨1, ![1]⟩
abbrev S1x1x1 : Shape := ⟨3, ![1, 1, 1]⟩

abbrev nBuf : Space → Nat
  | .hbm => 29
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S8192x1024, .f32⟩
  | .hbm, ⟨2, _⟩ => ⟨S8192, .i32⟩
  | .hbm, ⟨3, _⟩ => ⟨S1x8192, .i32⟩
  | .hbm, ⟨4, _⟩ => ⟨S4x8192, .i32⟩
  | .hbm, ⟨5, _⟩ => ⟨S_, .i32⟩
  | .hbm, ⟨6, _⟩ => ⟨S4x8192, .i32⟩
  | .hbm, ⟨7, _⟩ => ⟨S4x8192, .i1⟩
  | .hbm, ⟨8, _⟩ => ⟨S_, .i32⟩
  | .hbm, ⟨9, _⟩ => ⟨S4x8192, .i32⟩
  | .hbm, ⟨10, _⟩ => ⟨S4x8192, .i32⟩
  | .hbm, ⟨11, _⟩ => ⟨S4x8192, .i32⟩
  | .hbm, ⟨12, _⟩ => ⟨S4x8192x1, .i32⟩
  | .hbm, ⟨13, _⟩ => ⟨S1, .i32⟩
  | .hbm, ⟨14, _⟩ => ⟨S_, .i32⟩
  | .hbm, ⟨15, _⟩ => ⟨S4x8192x1, .i32⟩
  | .hbm, ⟨16, _⟩ => ⟨S4x8192x1, .i1⟩
  | .hbm, ⟨17, _⟩ => ⟨S1x1x1, .i32⟩
  | .hbm, ⟨18, _⟩ => ⟨S4x8192x1, .i32⟩
  | .hbm, ⟨19, _⟩ => ⟨S4x8192x1, .i1⟩
  | .hbm, ⟨20, _⟩ => ⟨S4x8192x1, .i1⟩
  | .hbm, ⟨21, _⟩ => ⟨S_, .i1⟩
  | .hbm, ⟨22, _⟩ => ⟨S4x8192, .i1⟩
  | .hbm, ⟨23, _⟩ => ⟨S4x8192x1024, .f32⟩
  | .hbm, ⟨24, _⟩ => ⟨S4x8192x1024, .i1⟩
  | .hbm, ⟨25, _⟩ => ⟨S_, .f32⟩
  | .hbm, ⟨26, _⟩ => ⟨S4x8192x1024, .f32⟩
  | .hbm, ⟨27, _⟩ => ⟨S4x8192x1024, .f32⟩
  | .hbm, ⟨28, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v3 : Ref sig .tc := ⟨.hbm, 27, rfl⟩
abbrev main_v4 : Ref sig .tc := ⟨.hbm, 28, rfl⟩

abbrev nD : Nat := 1
abbrev τ : Topo := Topo.v7x

variable {F : FTy → Type} [FloatOps F]
-- ==== Proof.Target.lean ====
/- The function that kernel and reference both compute: every row of a batch of sequences plus the table's row of the
   same position. -/
module

public import Idealize.ShloMosaic.Lib.Pipeline.Value
public import Idealize.ShloMosaic.Lib.ValueIdx

@[expose] public section

noncomputable section

namespace Cert.Position

open Idealize.ShloMosaic

/-- A batch of 4 sequences of 8192 positions of 1024 features. -/
abbrev Batch : Shape := ⟨3, ![4, 8192, 1024]⟩
/-- The table: 8192 positions of 1024 features. -/
abbrev Table : Shape := ⟨2, ![8192, 1024]⟩

/-- Where the batch's element `(b, s, d)` finds its summand in the table: at `(s, d)`, whatever the sequence `b`. -/
abbrev inTable (i : Batch.Idx) : Table.Idx :=
  fun a => match a with | ⟨0, _⟩ => (i 1 : Fin 8192) | ⟨1, _⟩ => (i 2 : Fin 1024)

variable {F : FTy → Type} [FloatOps F]

/-- The batch with its position embeddings: element `(b, s, d)` is `x[b, s, d] + p[s, d]`. -/
def embedded (x : FVec F Batch .f32) (p : FVec F Table .f32) : FVec F Batch .f32 :=
  fun i => FloatOps.addf (x i) (p (inTable i))

end Cert.Position

end
-- ==== Proof.KernelValue.lean ====
/- What the pipelined kernel leaves in its result array: `embedded` of its two arguments. Its 64 grid points write the 64
   blocks of 512 positions of one sequence; point `t` works on sequence `t / 16` and on the positions from
   `512 · (t mod 16)` on. -/
module

public import proofs.«01_k».proof.Proof.Target
public import proofs.«01_k».proof.Proof.Gen.KernelIdeal.Value

@[expose] public section

noncomputable section

namespace Cert.KernelIdeal.Whole

open Cert.KernelIdeal Cert.KernelIdeal.Gen Idealize.ShloMosaic Idealize.ShloMosaic.TcCoe Idealize.SL.Sem
open Idealize.ShloMosaic.Pipeline (Dat)
open Cert.Position (embedded inTable)

variable {F : FTy → Type} [FloatOps F]
variable (m : (ℓ : Loc nD τ sig) → Buf (Elt F) ℓ) (ρ : Dev nD → PrngReg)

/-- What the result array is shown to hold on device `c`. -/
abbrev result (c : Dev nD) : Buf (Elt F) ((c : Thread nD τ).loc main_v0) :=
  embedded (m ((c : Thread nD τ).loc main_arg0)) (m ((c : Thread nD τ).loc main_arg1))

/-! ## Where the blocks lie -/

/-- The block of the batch that point `t` reads: sequence `t / 16`, the `t mod 16`-th block of positions. -/
theorem batch_block : ∀ t : Fin grid0.N,
    win0_0.index t 0 = t.val / 16 ∧ win0_0.index t 1 = t.val % 16 ∧ win0_0.index t 2 = 0 := by
  decide +kernel

/-- The block of the table that point `t` reads: the `t mod 16`-th block of positions. -/
theorem table_block : ∀ t : Fin grid0.N, win0_1.index t 0 = t.val % 16 ∧ win0_1.index t 1 = 0 := by
  decide +kernel

/-- The block of the result that point `t` writes: the batch's. -/
theorem result_block : ∀ t : Fin grid0.N,
    win0_2.index t 0 = t.val / 16 ∧ win0_2.index t 1 = t.val % 16 ∧ win0_2.index t 2 = 0 := by
  decide +kernel

/-- Element `y` of point `t`'s block of the batch, as an index of the batch. -/
theorem batch_emb (t : Fin grid0.N) (y : S1x512x1024.Idx) :
    ((win0_0.rect t).emb y 0 : Nat) = t.val / 16 + (y 0 : Nat)
      ∧ ((win0_0.rect t).emb y 1 : Nat) = t.val % 16 * 512 + (y 1 : Nat)
      ∧ ((win0_0.rect t).emb y 2 : Nat) = (y 2 : Nat) := by
  obtain ⟨h0, h1, h2⟩ := batch_block t
  refine ⟨(win0_0.rect_emb_val t y 0).trans ?_, (win0_0.rect_emb_val t y 1).trans ?_, win0_0.rect_emb_val_of_index_zero t 2 h2 y⟩
  · rw [h0]; show t.val / 16 * 1 + (y 0 : Nat) = _; omega
  · rw [h1]; rfl

/-- Element `y` of point `t`'s block of the table, as an index of the table. -/
theorem table_emb (t : Fin grid0.N) (y : S512x1024.Idx) :
    ((win0_1.rect t).emb y 0 : Nat) = t.val % 16 * 512 + (y 0 : Nat) ∧ ((win0_1.rect t).emb y 1 : Nat) = (y 1 : Nat) := by
  obtain ⟨h0, h1⟩ := table_block t
  refine ⟨(win0_1.rect_emb_val t y 0).trans ?_, win0_1.rect_emb_val_of_index_zero t 1 h1 y⟩
  rw [h0]; rfl

/-- Element `y` of point `t`'s block of the result, as an index of the result. -/
theorem result_emb (t : Fin grid0.N) (y : S1x512x1024.Idx) :
    ((win0_2.rect t).emb y 0 : Nat) = t.val / 16 + (y 0 : Nat)
      ∧ ((win0_2.rect t).emb y 1 : Nat) = t.val % 16 * 512 + (y 1 : Nat)
      ∧ ((win0_2.rect t).emb y 2 : Nat) = (y 2 : Nat) := by
  obtain ⟨h0, h1, h2⟩ := result_block t
  refine ⟨(win0_2.rect_emb_val t y 0).trans ?_, (win0_2.rect_emb_val t y 1).trans ?_, win0_2.rect_emb_val_of_index_zero t 2 h2 y⟩
  · rw [h0]; show t.val / 16 * 1 + (y 0 : Nat) = _; omega
  · rw [h1]; rfl

/-! ## One block -/

/-- The body on a block `x` of the batch and a block `p` of the table: each position's row of `x` plus its row of `p`. -/
theorem body_apply (x : Vec F S1x512x1024 .f32) (p : Vec F S512x1024 .f32) (y : S1x512x1024.Idx) :
    out0_2 x p y = FloatOps.addf (x (Value.ix2_0 y)) (p (Value.ix2_1 y)) := by
  unfold out0_2
  rw [View.ld_unit_zero (funext fun a => by fin_cases a <;> rfl), View.ld_unit_zero (funext fun a => by fin_cases a <;> rfl)]
  exact Value.canon2_eq x p y

/-- What point `t` writes back is block `t` of the whole result. -/
theorem flushed_eq (c : Dev nD) (t : Fin cfg0.N) :
    (dats m 0 c).flushed 2 t = ((cfg0.win 2).blk t).view.read (Elt F) (result m c) := by
  rw [Value.flushed2]
  funext y
  have hy : (y 0 : Nat) < 1 := (y 0).isLt
  show out0_2 (iblk m c 0 t) (iblk m c 1 t) y = result m c ((win0_2.rect t).emb y)
  rw [body_apply]
  obtain ⟨r0, r1, r2⟩ := result_emb t y
  obtain ⟨b0, b1, b2⟩ := batch_emb t (Value.ix2_0 y)
  obtain ⟨p0, p1⟩ := table_emb t (Value.ix2_1 y)
  show FloatOps.addf (m ((c : Thread nD τ).loc main_arg0) ((win0_0.rect t).emb (Value.ix2_0 y)))
      (m ((c : Thread nD τ).loc main_arg1) ((win0_1.rect t).emb (Value.ix2_1 y)))
    = FloatOps.addf (m ((c : Thread nD τ).loc main_arg0) ((win0_2.rect t).emb y))
      (m ((c : Thread nD τ).loc main_arg1) (inTable ((win0_2.rect t).emb y)))
  congr 2
  · funext a
    refine Fin.ext ?_
    match a with
    | ⟨0, _⟩ => refine b0.trans (Eq.trans ?_ r0.symm); show t.val / 16 + 0 = _; omega
    | ⟨1, _⟩ => exact b1.trans r1.symm
    | ⟨2, _⟩ => exact b2.trans r2.symm
  · funext a
    refine Fin.ext ?_
    match a with
    | ⟨0, _⟩ => exact p0.trans r1.symm
    | ⟨1, _⟩ => exact p1.trans r2.symm

/-! ## The whole array -/

/-- An index of the result lies in point `t`'s block iff its sequence and its block of positions are the point's. -/
theorem mem_block (t : Fin cfg0.N) (i : S4x8192x1024.Idx) :
    i ∈ ((cfg0.win 2).blk t).view.set ↔ (i 0 : Nat) = t.val / 16 ∧ (i 1 : Nat) / 512 = t.val % 16 := by
  show i ∈ ((View.whole main_v0).slice (win0_2.rect t)).set ↔ _
  rw [View.set_slice_whole, Rect.mem_set_unit]
  obtain ⟨h0, h1, h2⟩ := result_block t
  have hi : (i 2 : Nat) < 1024 := (i 2).isLt
  refine ⟨fun h => ?_, fun h a => ?_⟩
  · have e0 : win0_2.index t 0 * 1 ≤ (i 0 : Nat) ∧ (i 0 : Nat) < win0_2.index t 0 * 1 + 1 := h 0
    have e1 : win0_2.index t 1 * 512 ≤ (i 1 : Nat) ∧ (i 1 : Nat) < win0_2.index t 1 * 512 + 512 := h 1
    rw [h0] at e0; rw [h1] at e1
    omega
  · match a with
    | ⟨0, _⟩ =>
      show win0_2.index t 0 * 1 ≤ (i 0 : Nat) ∧ (i 0 : Nat) < win0_2.index t 0 * 1 + 1
      rw [h0]; omega
    | ⟨1, _⟩ =>
      show win0_2.index t 1 * 512 ≤ (i 1 : Nat) ∧ (i 1 : Nat) < win0_2.index t 1 * 512 + 512
      rw [h1]; omega
    | ⟨2, _⟩ =>
      show win0_2.index t 2 * 1024 ≤ (i 2 : Nat) ∧ (i 2 : Nat) < win0_2.index t 2 * 1024 + 1024
      rw [h2]; omega

/-- The blocks tile the result: element `(b, s, d)` is written by point `16 · b + s / 512`. -/
theorem cover (i : S4x8192x1024.Idx) :
    ∃ t : Fin cfg0.N, (cfg0.win 2).flush t = true ∧ i ∈ ((cfg0.win 2).blk t).view.set := by
  have h0 : (i 0 : Nat) < 4 := (i 0).isLt
  have h1 : (i 1 : Nat) < 8192 := (i 1).isLt
  have hN : cfg0.N = 64 := N_0
  refine ⟨⟨16 * (i 0 : Nat) + (i 1 : Nat) / 512, by omega⟩, flush0_2 _, ?_⟩
  rw [mem_block]
  dsimp only
  omega

/-- The result array ends at `embedded` of the arguments. -/
theorem final (c : Dev nD) : (dats m 0 c).arrAt 2 cfg0.N = result m c :=
  (dats m 0 c).arrAt_eq_of_cover 2 (result m c) (fun t _ => flushed_eq m c t) cover

/-- The run: it ends, with the result at `embedded` of the arguments and the arguments unchanged. -/
theorem run : θ_run defs (onTc (τ := τ) (main (F := F))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

end Cert.KernelIdeal.Whole

end
-- ==== Proof.ReferenceValue.lean ====
/- What the reference computes: `embedded` of its two arguments. It numbers the positions, takes the table's row at each
   number (a negative number counted from the table's end, a row outside the table replaced by a constant) and adds. No
   number is negative and none is outside the table, so the row taken is the position's own. -/
module

public import proofs.«01_k».proof.Proof.Target
public import proofs.«01_k».proof.Proof.Gen.ReferenceIdeal.Run
public import Idealize.ShloMosaic.Lib.ReduceAll

@[expose] public section

noncomputable section

namespace Cert.ReferenceIdeal.Whole

open Cert.ReferenceIdeal Cert.ReferenceIdeal.Gen Idealize.ShloMosaic Idealize.ShloMosaic.TcCoe Idealize.SL.Sem
open Cert.Position (embedded inTable)

/-! ## A position as a 32-bit word -/

/-- A position below 8192, as a signed 32-bit word, is itself. -/
theorem toInt_position (n : Nat) (h : n < 8192) : (BitVec.ofNat 32 n).toInt = n := by
  rw [BitVec.toInt_ofNat', Int.bmod_def]
  omega

/-- A position is not negative. -/
theorem not_negative (n : Nat) (h : n < 8192) : IntOp.cmpi .slt (BitVec.ofNat 32 n) 0#32 = 0#1 := by
  have : (BitVec.ofNat 32 n).slt 0#32 = false := by
    rw [BitVec.slt_eq_decide, toInt_position n h]
    exact decide_eq_false (by simp)
  show BitVec.ofBool ((BitVec.ofNat 32 n).slt 0#32) = 0#1
  rw [this]; rfl

/-- A position is at least zero. -/
theorem zero_le (n : Nat) (h : n < 8192) : IntOp.cmpi .sge (BitVec.ofNat 32 n) 0#32 = 1#1 := by
  have : (0#32).sle (BitVec.ofNat 32 n) = true := by
    rw [BitVec.sle_eq_decide, toInt_position n h]
    exact decide_eq_true (by simp)
  show BitVec.ofBool ((0#32).sle (BitVec.ofNat 32 n)) = 1#1
  rw [this]; rfl

/-- A position is at most the table's last row. -/
theorem le_last (n : Nat) (h : n < 8192) : IntOp.cmpi .sle (BitVec.ofNat 32 n) 8191#32 = 1#1 := by
  have : (BitVec.ofNat 32 n).sle 8191#32 = true := by
    rw [BitVec.sle_eq_decide, toInt_position n h, toInt_position 8191 (by decide)]
    exact decide_eq_true (by omega)
  show BitVec.ofBool ((BitVec.ofNat 32 n).sle 8191#32) = 1#1
  rw [this]; rfl

/-! ## The row numbers -/

/-- The positions' numbers, the same in each sequence. -/
abbrev ids : IVec S4x8192 32 :=
  broadcastInDim S4x8192 ![0, 1] bcast_S1x8192_S4x8192_0_1 (broadcastInDim S1x8192 ![1] bcast_S8192_S1x8192_1 (iotaInDim S8192 32 0))

/-- The number of position `s` is `s`. -/
theorem ids_apply (j : S4x8192.Idx) : ids j = BitVec.ofNat 32 (j 1).val := by
  refine (broadcastInDim_apply _ _ _ j (fun a => match a with | ⟨0, _⟩ => (⟨0, Nat.one_pos⟩ : Fin 1) | ⟨1, _⟩ => (j 1 : Fin 8192) : S1x8192.Idx) ?_).trans ?_
  · intro a; match a with | ⟨0, _⟩ => rfl | ⟨1, _⟩ => rfl
  · refine (broadcastInDim_apply _ _ _ _ (fun a => match a with | ⟨0, _⟩ => (j 1 : Fin 8192) : S8192.Idx) ?_).trans rfl
    intro a; match a with | ⟨0, _⟩ => rfl

/-- The rows to take: a negative number counted from the table's end. -/
abbrev rows : IVec S4x8192x1 32 :=
  broadcastInDim S4x8192x1 ![0, 1] bcast_S4x8192_S4x8192x1_0_1
    (select (cmpi .slt ids (broadcastInDim S4x8192 ![] bcast_S_S4x8192 (constantI S_ 32 0#32)))
      (addi ids (broadcastInDim S4x8192 ![] bcast_S_S4x8192 (constantI S_ 32 8192#32))) ids)

/-- The row to take at position `s` is `s`. -/
theorem rows_apply (k : S4x8192x1.Idx) : rows k = BitVec.ofNat 32 (k 1).val := by
  refine (broadcastInDim_apply _ _ _ k (fun a => match a with | ⟨0, _⟩ => (k 0 : Fin 4) | ⟨1, _⟩ => (k 1 : Fin 8192) : S4x8192.Idx) ?_).trans ?_
  · intro a; match a with | ⟨0, _⟩ => rfl | ⟨1, _⟩ => rfl
  · show Scalar.select (IntOp.cmpi .slt (ids _) 0#32) _ (ids _) = _
    rw [ids_apply]
    dsimp only
    rw [not_negative _ (show (k 1).val < 8192 from (k 1).isLt)]
    rfl

/-- Which rows lie inside the table. -/
abbrev inside : IVec S4x8192 1 :=
  Host.reduce IntOp.andi
    (andi (cmpi .sge rows (broadcastInDim S4x8192x1 ![] bcast_S_S4x8192x1 (constantI S_ 32 0#32)))
      (cmpi .sle rows (broadcastInDim S4x8192x1 ![0, 1, 2] bcast_S1x1x1_S4x8192x1_0_1_2
        (broadcastInDim S1x1x1 ![2] bcast_S1_S1x1x1_2 (constantI S1 32 8191#32)))))
    (constantI S_ 1 1#1) reducesTo_S4x8192x1_S4x8192_d2 h_S_

/-- They all do. -/
theorem inside_apply (j : S4x8192.Idx) : inside j = 1#1 := by
  refine Host.reduce_andi_one _ _ _ _ j rfl fun k => ?_
  have hk : (k 1).val < 8192 := (k 1).isLt
  show IntOp.andi (IntOp.cmpi .sge (rows k) 0#32) (IntOp.cmpi .sle (rows k) 8191#32) = 1#1
  rw [rows_apply, zero_le _ hk, le_last _ hk]
  rfl

/-! ## The rows taken -/

/-- The gather of whole rows, read at `(b, s, d)` where the row number of `(b, s)` is the word of `s`: the table at
    `(s, d)`. The gather clamps the row number into the table, which changes no number of a position. -/
theorem gather_apply {α : Type} (p : S8192x1024.Idx → α) (r : IVec S4x8192x1 32)
    (hr : ∀ k, r k = BitVec.ofNat 32 (k 1).val) (i : S4x8192x1024.Idx) :
    Host.gather gather_S8192x1024_S4x8192x1_S4x8192x1024_2_0_n_n_0_2_11024 p r i = p (inTable i) := by
  have hi : (i 1).val < 8192 := (i 1).isLt
  refine congrArg p (funext fun a => Fin.ext ?_)
  match a with
  | ⟨0, _⟩ =>
    show min (r (gather_S8192x1024_S4x8192x1_S4x8192x1024_2_0_n_n_0_2_11024.siIdx i ⟨0, Nat.one_pos⟩)).toInt.toNat (8192 - 1) + 0 + 0 = (i 1).val
    rw [hr]
    show min (BitVec.ofNat 32 (i 1).val).toInt.toNat (8192 - 1) + 0 + 0 = (i 1).val
    rw [toInt_position _ hi]
    omega
  | ⟨1, _⟩ =>
    show 0 + 0 + (i 2).val = (i 2).val
    omega

/-! ## The whole -/

variable {F : FTy → Type} [FloatOps F]

/-- The batch plus the rows taken, where they lie inside the table, is `embedded`. -/
theorem value_eq (x : FVec F S4x8192x1024 .f32) (p : FVec F S8192x1024 .f32) (q : FVec F S4x8192x1024 .f32) :
    addf x (select (broadcastInDim S4x8192x1024 ![0, 1] bcast_S4x8192_S4x8192x1024_0_1 inside)
      (Host.gather gather_S8192x1024_S4x8192x1_S4x8192x1024_2_0_n_n_0_2_11024 p rows) q) = embedded x p := by
  funext i
  have e : broadcastInDim S4x8192x1024 ![0, 1] bcast_S4x8192_S4x8192x1024_0_1 inside i = 1#1 := by
    unfold broadcastInDim
    exact inside_apply _
  show FloatOps.addf (x i) (Scalar.select (broadcastInDim S4x8192x1024 ![0, 1] bcast_S4x8192_S4x8192x1024_0_1 inside i)
      (Host.gather gather_S8192x1024_S4x8192x1_S4x8192x1024_2_0_n_n_0_2_11024 p rows i) (q i)) = FloatOps.addf (x i) (p (inTable i))
  rw [e, gather_apply p rows rows_apply]
  rfl

/-- The run: it ends, with the result at `embedded` of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v4)
          = embedded (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (value_eq _ _ _), (h c).2⟩) (Value.run m ρ)

end Cert.ReferenceIdeal.Whole

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.KernelValue
public import proofs.«01_k».proof.Proof.ReferenceValue
public import Idealize.ShloMosaic.Lib.Quiescent

@[expose] public section

noncomputable section

namespace Cert.Proof

open Idealize.ShloMosaic Idealize.SL.Sem

/-- The kernel, on machine words, runs to its end and leaves its arguments and every counter as they were. -/
theorem frame_kernel : Cert.quiescent_Kernel := fun m ρ _ => Cert.Kernel.Gen.frame m ρ

/-- So does the kernel over the extended reals. -/
theorem frame_kernelIdeal : Cert.quiescent_KernelIdeal := fun m ρ _ => Cert.KernelIdeal.Gen.frame m ρ

/-- So does the reference, which declares no semaphore. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Whole.run (F := Ideal) m ρ)

/-- From equal arguments kernel and reference end with equal results: `embedded` of the arguments. -/
theorem algebraic : Cert.algebraic_KernelIdeal_ReferenceIdeal := by
  intro m ρ m' ρ' _ hagree
  refine ⟨fun c => Cert.KernelIdeal.Whole.result m c, Cert.KernelIdeal.Whole.run (F := Ideal) m ρ, ?_⟩
  refine (θ_run Cert.ReferenceIdeal.defs _ _).mono (fun _ h c => ⟨(h c).1.trans ?_, (h c).2⟩)
    (Cert.ReferenceIdeal.Whole.run (F := Ideal) m' ρ')
  rw [(hagree c).1, (hagree c).2]

theorem claim : Cert.Claim :=
  ⟨Cert.Kernel.Gen.facts, Cert.KernelIdeal.Gen.facts, Cert.ReferenceIdeal.Gen.facts,
    frame_kernel, frame_kernelIdeal, frame_reference, trivial, algebraic⟩

end Cert.Proof

end
